-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x32768x512 : Shape := ⟨3, ![12, 32768, 512]⟩
abbrev S12x256x512 : Shape := ⟨3, ![12, 256, 512]⟩
abbrev S12x32768x640 : Shape := ⟨3, ![12, 32768, 640]⟩
abbrev S12x256x640 : Shape := ⟨3, ![12, 256, 640]⟩
abbrev S512x640 : Shape := ⟨2, ![512, 640]⟩
abbrev S640 : Shape := ⟨1, ![640]⟩
abbrev S393216x512 : Shape := ⟨2, ![393216, 512]⟩
abbrev S393216x640 : Shape := ⟨2, ![393216, 640]⟩
abbrev S3072x512 : Shape := ⟨2, ![3072, 512]⟩
abbrev S3072x640 : Shape := ⟨2, ![3072, 640]⟩
abbrev S1x640 : Shape := ⟨2, ![1, 640]⟩
abbrev S4096x512 : Shape := ⟨2, ![4096, 512]⟩
abbrev S32x512 : Shape := ⟨2, ![32, 512]⟩
abbrev S4096x640 : Shape := ⟨2, ![4096, 640]⟩
abbrev S32x640 : Shape := ⟨2, ![32, 640]⟩
abbrev S640x512 : Shape := ⟨2, ![640, 512]⟩
abbrev S8x640 : Shape := ⟨2, ![8, 640]⟩
abbrev S32x128x512 : Shape := ⟨3, ![32, 128, 512]⟩
abbrev S32x1x512 : Shape := ⟨3, ![32, 1, 512]⟩
abbrev S32x128x640 : Shape := ⟨3, ![32, 128, 640]⟩
abbrev S32x1x640 : Shape := ⟨3, ![32, 1, 640]⟩
abbrev S512x8x640 : Shape := ⟨3, ![512, 8, 640]⟩

abbrev nBuf : Space → Nat
  | .hbm => 14
  | .vmem => 14
  | .smem => 0
  | _ => 0

abbrev bufTy : (tb : Table) → Fin (tcTables nBuf tb) → BufTy
  | .hbm, ⟨0, _⟩ => ⟨S12x32768x512, .fp8e4m3⟩
  | .hbm, ⟨1, _⟩ => ⟨S12x256x512, .f32⟩
  | .hbm, ⟨2, _⟩ => ⟨S12x32768x640, .fp8e5m2⟩
  | .hbm, ⟨3, _⟩ => ⟨S12x256x640, .f32⟩
  | .hbm, ⟨4, _⟩ => ⟨S512x640, .f32⟩
  | .hbm, ⟨5, _⟩ => ⟨S640, .f32⟩
  | .hbm, ⟨6, _⟩ => ⟨S393216x512, .fp8e4m3⟩
  | .hbm, ⟨7, _⟩ => ⟨S393216x640, .fp8e5m2⟩
  | .hbm, ⟨8, _⟩ => ⟨S3072x512, .f32⟩
  | .hbm, ⟨9, _⟩ => ⟨S3072x640, .f32⟩
  | .hbm, ⟨10, _⟩ => ⟨S1x640, .f32⟩
  | .hbm, ⟨11, _⟩ => ⟨S512x640, .f32⟩
  | .hbm, ⟨12, _⟩ => ⟨S1x640, .f32⟩
  | .hbm, ⟨13, _⟩ => ⟨S640, .f32⟩
  | .local _ .vmem, ⟨0, _⟩ => ⟨S4096x512, .fp8e4m3⟩
  | .local _ .vmem, ⟨1, _⟩ => ⟨S4096x512, .fp8e4m3⟩
  | .local _ .vmem, ⟨2, _⟩ => ⟨S32x512, .f32⟩
  | .local _ .vmem, ⟨3, _⟩ => ⟨S32x512, .f32⟩
  | .local _ .vmem, ⟨4, _⟩ => ⟨S4096x640, .fp8e5m2⟩
  | .local _ .vmem, ⟨5, _⟩ => ⟨S4096x640, .fp8e5m2⟩
  | .local _ .vmem, ⟨6, _⟩ => ⟨S32x640, .f32⟩
  | .local _ .vmem, ⟨7, _⟩ => ⟨S32x640, .f32⟩
  | .local _ .vmem, ⟨8, _⟩ => ⟨S512x640, .f32⟩
  | .local _ .vmem, ⟨9, _⟩ => ⟨S1x640, .f32⟩
  | .local _ .vmem, ⟨10, _⟩ => ⟨S512x640, .f32⟩
  | .local _ .vmem, ⟨11, _⟩ => ⟨S1x640, .f32⟩
  | .local _ .vmem, ⟨12, _⟩ => ⟨S640x512, .f32⟩
  | .local _ .vmem, ⟨13, _⟩ => ⟨S8x640, .f32⟩
  | _, _ => ⟨S12x32768x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![96], ![false]⟩

def k0_cond2 (i : grid0.Coords) : BitVec 1 :=
  let arg0 : BitVec 32 := BitVec.ofNat 32 (i 0).val
  let c95_i32 : BitVec 32 := 95#32
  let v39 : BitVec 1 := Scalar.cmpi .eq arg0 c95_i32
  let v40 : BitVec 32 := Scalar.extui v39
  let c0_i32_17 : BitVec 32 := 0#32
  let v41 : BitVec 1 := Scalar.cmpi .ne v40 c0_i32_17
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x640 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S12x32768x512 : Shape := ⟨3, ![12, 32768, 512]⟩
abbrev S12x256x512 : Shape := ⟨3, ![12, 256, 512]⟩
abbrev S12x32768x640 : Shape := ⟨3, ![12, 32768, 640]⟩
abbrev S12x256x640 : Shape := ⟨3, ![12, 256, 640]⟩
abbrev S512x640 : Shape := ⟨2, ![512, 640]⟩
abbrev S640 : Shape := ⟨1, ![640]⟩
abbrev S12x256x128x512 : Shape := ⟨4, ![12, 256, 128, 512]⟩
abbrev S12x256x1x512 : Shape := ⟨4, ![12, 256, 1, 512]⟩
abbrev S12x256x128x640 : Shape := ⟨4, ![12, 256, 128, 640]⟩
abbrev S12x256x1x640 : Shape := ⟨4, ![12, 256, 1, 640]⟩

abbrev nBuf : Space → Nat
  | .hbm => 8
  | .vmem => 8
  | .smem => 0
  | _ => 0

abbrev bufTy : (tb : Table) → Fin (tcTables nBuf tb) → BufTy
  | .hbm, ⟨0, _⟩ => ⟨S12x32768x512, .fp8e4m3⟩
  | .hbm, ⟨1, _⟩ => ⟨S12x256x512, .f32⟩
  | .hbm, ⟨2, _⟩ => ⟨S12x32768x640, .fp8e5m2⟩
  | .hbm, ⟨3, _⟩ => ⟨S12x256x640, .f32⟩
  | .hbm, ⟨4, _⟩ => ⟨S512x640, .f32⟩
  | .hbm, ⟨5, _⟩ => ⟨S640, .f32⟩
  | .hbm, ⟨6, _⟩ => ⟨S512x640, .f32⟩
  | .hbm, ⟨7, _⟩ => ⟨S640, .f32⟩
  | .local _ .vmem, ⟨0, _⟩ => ⟨S12x32768x512, .fp8e4m3⟩
  | .local _ .vmem, ⟨1, _⟩ => ⟨S12x256x512, .f32⟩
  | .local _ .vmem, ⟨2, _⟩ => ⟨S12x32768x640, .fp8e5m2⟩
  | .local _ .vmem, ⟨3, _⟩ => ⟨S12x256x640, .f32⟩
  | .local _ .vmem, ⟨4, _⟩ => ⟨S512x640, .f32⟩
  | .local _ .vmem, ⟨5, _⟩ => ⟨S640, .f32⟩
  | .local _ .vmem, ⟨6, _⟩ => ⟨S512x640, .f32⟩
  | .local _ .vmem, ⟨7, _⟩ => ⟨S640, .f32⟩
  | _, _ => ⟨S12x32768x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12x32768x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x32768x640 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x256x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Block.lean ====
/-
  WHAT ONE GRID POINT LEAVES BEHIND. The kernel's body runs in three cases: the first point (A), which zeroes the two
  accumulators and then adds its block; a middle point (B), which adds its block to them; the last point (C), which adds
  its block and writes the two results. Here the stores each case's run found are read back as plain values, for any
  reading of the floats: the accumulators as the step applied to what they held, the results as the final sums of the
  accumulators the last step left.
-/
module

public import proofs.«01_k».proof.Proof.Gen.KernelIdeal.Frame
public import Idealize.ShloMosaic.Lib.Pipeline.Value
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-- Zero offsets, as the constant function. -/
theorem hz : (![0, 0] : Fin 2 → Nat) = fun _ => 0 := funext fun a => by fin_cases a <;> rfl

/-- One block added to the product accumulator `acc`: the product of its dequantized gradient block, transposed, with
    its dequantized activation block. -/
abbrev step0 (x0 : Vec F S4096x512 .fp8e4m3) (x1 : Vec F S32x512 .f32) (x2 : Vec F S4096x640 .fp8e5m2) (x3 : Vec F S32x640 .f32)
    (acc : Vec F S640x512 .f32) : Vec F S640x512 .f32 := k0_pay7 x0 x1 x2 x3 acc

/-- One block added to the row-sum accumulator `acc`: its dequantized gradient rows, summed into eight rows. -/
abbrev step1 (x2 : Vec F S4096x640 .fp8e5m2) (x3 : Vec F S32x640 .f32) (acc : Vec F S8x640 .f32) : Vec F S8x640 .f32 :=
  k0_pay1 (k0_pay8 x2 x3 acc)

/-- The first point leaves the product accumulator at one step from zero. -/
theorem sout0_A_0_eq (c : Dev nD) (i : grid0.Coords) (a1 : Memref sig .tc .vmem S4096x512 .fp8e4m3) (h1 : a1.IsWhole) (a2 : Memref sig .tc .vmem S32x512 .f32) (h2 : a2.IsWhole) (a3 : Memref sig .tc .vmem S4096x640 .fp8e5m2) (h3 : a3.IsWhole) (a4 : Memref sig .tc .vmem S32x640 .f32) (h4 : a4.IsWhole) (a5 : Memref sig .tc .vmem S512x640 .f32) (h5 : a5.IsWhole) (a6 : Memref sig .tc .vmem S1x640 .f32) (h6 : a6.IsWhole) (a7 : Memref sig .tc .vmem S512x640 .f32) (h7 : a7.IsWhole) (a8 : Memref sig .tc .vmem S1x640 .f32) (h8 : a8.IsWhole) (a9 : Memref sig .tc .vmem S640x512 .f32) (h9 : a9.IsWhole) (a10 : Memref sig .tc .vmem S8x640 .f32) (h10 : a10.IsWhole) (hc0 : cond0_0 i) (hc1 : ¬cond0_1 i)
    (x0 : Vec F S4096x512 .fp8e4m3) (x1 : Vec F S32x512 .f32) (x2 : Vec F S4096x640 .fp8e5m2) (x3 : Vec F S32x640 .f32) (x4 : Vec F S512x640 .f32) (x5 : Vec F S1x640 .f32) :
    sout0_A_0 c i a1 h1 a2 h2 a3 h3 a4 h4 a5 h5 a6 h6 a7 h7 a8 h8 a9 h9 a10 h10 hc0 hc1 x0 x1 x2 x3 x4 x5 = step0 x0 x1 x2 x3 k0_pay4 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S640x512) hz]
  simp only [View.readCov_unit_zero (S := S640x512) _ hz, View.readCov_unit_zero (S := S8x640) _ hz]
  simp only [View.readAt_eq_ld, h1.read_unread, h2.read_unread, h3.read_unread, h4.read_unread, h5.read_unread, h6.read_unread, h9.read_unread, h10.read_unread, View.ld_unit_zero (S := S4096x512) hz, View.ld_unit_zero (S := S32x512) hz, View.ld_unit_zero (S := S4096x640) hz, View.ld_unit_zero (S := S32x640) hz, View.ld_unit_zero (S := S512x640) hz, View.ld_unit_zero (S := S1x640) hz, View.ld_unit_zero (S := S640x512) hz, View.ld_unit_zero (S := S8x640) hz]

/-- The first point leaves the row-sum accumulator at one step from zero. -/
theorem sout0_A_1_eq (c : Dev nD) (i : grid0.Coords) (a1 : Memref sig .tc .vmem S4096x512 .fp8e4m3) (h1 : a1.IsWhole) (a2 : Memref sig .tc .vmem S32x512 .f32) (h2 : a2.IsWhole) (a3 : Memref sig .tc .vmem S4096x640 .fp8e5m2) (h3 : a3.IsWhole) (a4 : Memref sig .tc .vmem S32x640 .f32) (h4 : a4.IsWhole) (a5 : Memref sig .tc .vmem S512x640 .f32) (h5 : a5.IsWhole) (a6 : Memref sig .tc .vmem S1x640 .f32) (h6 : a6.IsWhole) (a7 : Memref sig .tc .vmem S512x640 .f32) (h7 : a7.IsWhole) (a8 : Memref sig .tc .vmem S1x640 .f32) (h8 : a8.IsWhole) (a9 : Memref sig .tc .vmem S640x512 .f32) (h9 : a9.IsWhole) (a10 : Memref sig .tc .vmem S8x640 .f32) (h10 : a10.IsWhole) (hc0 : cond0_0 i) (hc1 : ¬cond0_1 i)
    (x0 : Vec F S4096x512 .fp8e4m3) (x1 : Vec F S32x512 .f32) (x2 : Vec F S4096x640 .fp8e5m2) (x3 : Vec F S32x640 .f32) (x4 : Vec F S512x640 .f32) (x5 : Vec F S1x640 .f32) :
    sout0_A_1 c i a1 h1 a2 h2 a3 h3 a4 h4 a5 h5 a6 h6 a7 h7 a8 h8 a9 h9 a10 h10 hc0 hc1 x0 x1 x2 x3 x4 x5 = step1 x2 x3 k0_pay5 := by
  unfold sout0_A_1
  rw [View.read_writes_eq_canon _ _ _ (scover0_A_1 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S8x640) hz]
  simp only [View.readCov_unit_zero (S := S640x512) _ hz, View.readCov_unit_zero (S := S8x640) _ hz]
  simp only [View.readAt_eq_ld, h1.read_unread, h2.read_unread, h3.read_unread, h4.read_unread, h5.read_unread, h6.read_unread, h9.read_unread, h10.read_unread, View.ld_unit_zero (S := S4096x512) hz, View.ld_unit_zero (S := S32x512) hz, View.ld_unit_zero (S := S4096x640) hz, View.ld_unit_zero (S := S32x640) hz, View.ld_unit_zero (S := S512x640) hz, View.ld_unit_zero (S := S1x640) hz, View.ld_unit_zero (S := S640x512) hz, View.ld_unit_zero (S := S8x640) hz]

/-- A middle point leaves the product accumulator one step further. -/
theorem sout0_B_0_eq (c : Dev nD) (i : grid0.Coords) (a1 : Memref sig .tc .vmem S4096x512 .fp8e4m3) (h1 : a1.IsWhole) (a2 : Memref sig .tc .vmem S32x512 .f32) (h2 : a2.IsWhole) (a3 : Memref sig .tc .vmem S4096x640 .fp8e5m2) (h3 : a3.IsWhole) (a4 : Memref sig .tc .vmem S32x640 .f32) (h4 : a4.IsWhole) (a5 : Memref sig .tc .vmem S512x640 .f32) (h5 : a5.IsWhole) (a6 : Memref sig .tc .vmem S1x640 .f32) (h6 : a6.IsWhole) (a7 : Memref sig .tc .vmem S512x640 .f32) (h7 : a7.IsWhole) (a8 : Memref sig .tc .vmem S1x640 .f32) (h8 : a8.IsWhole) (a9 : Memref sig .tc .vmem S640x512 .f32) (h9 : a9.IsWhole) (a10 : Memref sig .tc .vmem S8x640 .f32) (h10 : a10.IsWhole) (hc0 : ¬cond0_0 i) (hc1 : ¬cond0_1 i)
    (x0 : Vec F S4096x512 .fp8e4m3) (x1 : Vec F S32x512 .f32) (x2 : Vec F S4096x640 .fp8e5m2) (x3 : Vec F S32x640 .f32) (x4 : Vec F S512x640 .f32) (x5 : Vec F S1x640 .f32) (xs0 : Vec F S640x512 .f32) (xs1 : Vec F S8x640 .f32) :
    sout0_B_0 c i a1 h1 a2 h2 a3 h3 a4 h4 a5 h5 a6 h6 a7 h7 a8 h8 a9 h9 a10 h10 hc0 hc1 x0 x1 x2 x3 x4 x5 xs0 xs1 = step0 x0 x1 x2 x3 xs0 := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 x4 x5 xs0 xs1)]
  unfold kernelRun0_B
  dsimp only
  sl_unfold_words
  rw [View.canon_unit_zero hz]
  simp only [View.readAt_eq_ld, h1.read_unread, h2.read_unread, h3.read_unread, h4.read_unread, h5.read_unread, h6.read_unread, h9.read_unread, h10.read_unread, View.ld_unit_zero (S := S4096x512) hz, View.ld_unit_zero (S := S32x512) hz, View.ld_unit_zero (S := S4096x640) hz, View.ld_unit_zero (S := S32x640) hz, View.ld_unit_zero (S := S512x640) hz, View.ld_unit_zero (S := S1x640) hz, View.ld_unit_zero (S := S640x512) hz, View.ld_unit_zero (S := S8x640) hz]

/-- A middle point leaves the row-sum accumulator one step further. -/
theorem sout0_B_1_eq (c : Dev nD) (i : grid0.Coords) (a1 : Memref sig .tc .vmem S4096x512 .fp8e4m3) (h1 : a1.IsWhole) (a2 : Memref sig .tc .vmem S32x512 .f32) (h2 : a2.IsWhole) (a3 : Memref sig .tc .vmem S4096x640 .fp8e5m2) (h3 : a3.IsWhole) (a4 : Memref sig .tc .vmem S32x640 .f32) (h4 : a4.IsWhole) (a5 : Memref sig .tc .vmem S512x640 .f32) (h5 : a5.IsWhole) (a6 : Memref sig .tc .vmem S1x640 .f32) (h6 : a6.IsWhole) (a7 : Memref sig .tc .vmem S512x640 .f32) (h7 : a7.IsWhole) (a8 : Memref sig .tc .vmem S1x640 .f32) (h8 : a8.IsWhole) (a9 : Memref sig .tc .vmem S640x512 .f32) (h9 : a9.IsWhole) (a10 : Memref sig .tc .vmem S8x640 .f32) (h10 : a10.IsWhole) (hc0 : ¬cond0_0 i) (hc1 : ¬cond0_1 i)
    (x0 : Vec F S4096x512 .fp8e4m3) (x1 : Vec F S32x512 .f32) (x2 : Vec F S4096x640 .fp8e5m2) (x3 : Vec F S32x640 .f32) (x4 : Vec F S512x640 .f32) (x5 : Vec F S1x640 .f32) (xs0 : Vec F S640x512 .f32) (xs1 : Vec F S8x640 .f32) :
    sout0_B_1 c i a1 h1 a2 h2 a3 h3 a4 h4 a5 h5 a6 h6 a7 h7 a8 h8 a9 h9 a10 h10 hc0 hc1 x0 x1 x2 x3 x4 x5 xs0 xs1 = step1 x2 x3 xs1 := by
  unfold sout0_B_1
  rw [View.read_writes_eq_canon _ _ _ (scover0_B_1 c i a1 h1 a2 h2 a3 h3 a4 h4 a5 h5 a6 h6 a7 h7 a8 h8 a9 h9 a10 h10 hc0 hc1 x0 x1 x2 x3 x4 x5 xs0 xs1)]
  unfold kernelRun0_B
  dsimp only
  sl_unfold_words
  rw [View.canon_unit_zero hz]
  simp only [View.readAt_eq_ld, h1.read_unread, h2.read_unread, h3.read_unread, h4.read_unread, h5.read_unread, h6.read_unread, h9.read_unread, h10.read_unread, View.ld_unit_zero (S := S4096x512) hz, View.ld_unit_zero (S := S32x512) hz, View.ld_unit_zero (S := S4096x640) hz, View.ld_unit_zero (S := S32x640) hz, View.ld_unit_zero (S := S512x640) hz, View.ld_unit_zero (S := S1x640) hz, View.ld_unit_zero (S := S640x512) hz, View.ld_unit_zero (S := S8x640) hz]

/-- A last point leaves the product accumulator one step further. -/
theorem sout0_C_0_eq (c : Dev nD) (i : grid0.Coords) (a1 : Memref sig .tc .vmem S4096x512 .fp8e4m3) (h1 : a1.IsWhole) (a2 : Memref sig .tc .vmem S32x512 .f32) (h2 : a2.IsWhole) (a3 : Memref sig .tc .vmem S4096x640 .fp8e5m2) (h3 : a3.IsWhole) (a4 : Memref sig .tc .vmem S32x640 .f32) (h4 : a4.IsWhole) (a5 : Memref sig .tc .vmem S512x640 .f32) (h5 : a5.IsWhole) (a6 : Memref sig .tc .vmem S1x640 .f32) (h6 : a6.IsWhole) (a7 : Memref sig .tc .vmem S512x640 .f32) (h7 : a7.IsWhole) (a8 : Memref sig .tc .vmem S1x640 .f32) (h8 : a8.IsWhole) (a9 : Memref sig .tc .vmem S640x512 .f32) (h9 : a9.IsWhole) (a10 : Memref sig .tc .vmem S8x640 .f32) (h10 : a10.IsWhole) (hc0 : ¬cond0_0 i) (hc1 : cond0_1 i)
    (x0 : Vec F S4096x512 .fp8e4m3) (x1 : Vec F S32x512 .f32) (x2 : Vec F S4096x640 .fp8e5m2) (x3 : Vec F S32x640 .f32) (x4 : Vec F S512x640 .f32) (x5 : Vec F S1x640 .f32) (xs0 : Vec F S640x512 .f32) (xs1 : Vec F S8x640 .f32) :
    sout0_C_0 c i a1 h1 a2 h2 a3 h3 a4 h4 a5 h5 a6 h6 a7 h7 a8 h8 a9 h9 a10 h10 hc0 hc1 x0 x1 x2 x3 x4 x5 xs0 xs1 = step0 x0 x1 x2 x3 xs0 := by
  unfold sout0_C_0
  rw [View.read_writes_eq_canon _ _ _ (scover0_C_0 c i a1 h1 a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz]
  simp only [View.readAt_eq_ld, h1.read_unread, h2.read_unread, h3.read_unread, h4.read_unread, h5.read_unread, h6.read_unread, h9.read_unread, h10.read_unread, View.ld_unit_zero (S := S4096x512) hz, View.ld_unit_zero (S := S32x512) hz, View.ld_unit_zero (S := S4096x640) hz, View.ld_unit_zero (S := S32x640) hz, View.ld_unit_zero (S := S512x640) hz, View.ld_unit_zero (S := S1x640) hz, View.ld_unit_zero (S := S640x512) hz, View.ld_unit_zero (S := S8x640) hz]

/-- A last point leaves the row-sum accumulator one step further. -/
theorem sout0_C_1_eq (c : Dev nD) (i : grid0.Coords) (a1 : Memref sig .tc .vmem S4096x512 .fp8e4m3) (h1 : a1.IsWhole) (a2 : Memref sig .tc .vmem S32x512 .f32) (h2 : a2.IsWhole) (a3 : Memref sig .tc .vmem S4096x640 .fp8e5m2) (h3 : a3.IsWhole) (a4 : Memref sig .tc .vmem S32x640 .f32) (h4 : a4.IsWhole) (a5 : Memref sig .tc .vmem S512x640 .f32) (h5 : a5.IsWhole) (a6 : Memref sig .tc .vmem S1x640 .f32) (h6 : a6.IsWhole) (a7 : Memref sig .tc .vmem S512x640 .f32) (h7 : a7.IsWhole) (a8 : Memref sig .tc .vmem S1x640 .f32) (h8 : a8.IsWhole) (a9 : Memref sig .tc .vmem S640x512 .f32) (h9 : a9.IsWhole) (a10 : Memref sig .tc .vmem S8x640 .f32) (h10 : a10.IsWhole) (hc0 : ¬cond0_0 i) (hc1 : cond0_1 i)
    (x0 : Vec F S4096x512 .fp8e4m3) (x1 : Vec F S32x512 .f32) (x2 : Vec F S4096x640 .fp8e5m2) (x3 : Vec F S32x640 .f32) (x4 : Vec F S512x640 .f32) (x5 : Vec F S1x640 .f32) (xs0 : Vec F S640x512 .f32) (xs1 : Vec F S8x640 .f32) :
    sout0_C_1 c i a1 h1 a2 h2 a3 h3 a4 h4 a5 h5 a6 h6 a7 h7 a8 h8 a9 h9 a10 h10 hc0 hc1 x0 x1 x2 x3 x4 x5 xs0 xs1 = step1 x2 x3 xs1 := by
  unfold sout0_C_1
  rw [View.read_writes_eq_canon _ _ _ (scover0_C_1 c i a1 h1 a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz]
  simp only [View.readAt_eq_ld, h1.read_unread, h2.read_unread, h3.read_unread, h4.read_unread, h5.read_unread, h6.read_unread, h9.read_unread, h10.read_unread, View.ld_unit_zero (S := S4096x512) hz, View.ld_unit_zero (S := S32x512) hz, View.ld_unit_zero (S := S4096x640) hz, View.ld_unit_zero (S := S32x640) hz, View.ld_unit_zero (S := S512x640) hz, View.ld_unit_zero (S := S1x640) hz, View.ld_unit_zero (S := S640x512) hz, View.ld_unit_zero (S := S8x640) hz]

/-- The last point writes, to the weight-gradient result, the main gradient plus the transposed product accumulator. -/
theorem out0_C_6_eq (c : Dev nD) (i : grid0.Coords) (a1 : Memref sig .tc .vmem S4096x512 .fp8e4m3) (h1 : a1.IsWhole) (a2 : Memref sig .tc .vmem S32x512 .f32) (h2 : a2.IsWhole) (a3 : Memref sig .tc .vmem S4096x640 .fp8e5m2) (h3 : a3.IsWhole) (a4 : Memref sig .tc .vmem S32x640 .f32) (h4 : a4.IsWhole) (a5 : Memref sig .tc .vmem S512x640 .f32) (h5 : a5.IsWhole) (a6 : Memref sig .tc .vmem S1x640 .f32) (h6 : a6.IsWhole) (a7 : Memref sig .tc .vmem S512x640 .f32) (h7 : a7.IsWhole) (a8 : Memref sig .tc .vmem S1x640 .f32) (h8 : a8.IsWhole) (a9 : Memref sig .tc .vmem S640x512 .f32) (h9 : a9.IsWhole) (a10 : Memref sig .tc .vmem S8x640 .f32) (h10 : a10.IsWhole) (hc0 : ¬cond0_0 i) (hc1 : cond0_1 i)
    (x0 : Vec F S4096x512 .fp8e4m3) (x1 : Vec F S32x512 .f32) (x2 : Vec F S4096x640 .fp8e5m2) (x3 : Vec F S32x640 .f32) (x4 : Vec F S512x640 .f32) (x5 : Vec F S1x640 .f32) (xs0 : Vec F S640x512 .f32) (xs1 : Vec F S8x640 .f32) :
    out0_C_6 c i a1 h1 a2 h2 a3 h3 a4 h4 a5 h5 a6 h6 a7 h7 a8 h8 a9 h9 a10 h10 hc0 hc1 x0 x1 x2 x3 x4 x5 xs0 xs1 = k0_pay2 x4 (step0 x0 x1 x2 x3 xs0) := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz]
  simp only [View.readCov_unit_zero (S := S640x512) _ hz, View.readCov_unit_zero (S := S8x640) _ hz]
  simp only [View.readAt_eq_ld, h1.read_unread, h2.read_unread, h3.read_unread, h4.read_unread, h5.read_unread, h6.read_unread, h9.read_unread, h10.read_unread, View.ld_unit_zero (S := S4096x512) hz, View.ld_unit_zero (S := S32x512) hz, View.ld_unit_zero (S := S4096x640) hz, View.ld_unit_zero (S := S32x640) hz, View.ld_unit_zero (S := S512x640) hz, View.ld_unit_zero (S := S1x640) hz, View.ld_unit_zero (S := S640x512) hz, View.ld_unit_zero (S := S8x640) hz]

/-- The last point writes, to the bias result, the main bias gradient plus the row-sum accumulator's eight rows summed. -/
theorem out0_C_7_eq (c : Dev nD) (i : grid0.Coords) (a1 : Memref sig .tc .vmem S4096x512 .fp8e4m3) (h1 : a1.IsWhole) (a2 : Memref sig .tc .vmem S32x512 .f32) (h2 : a2.IsWhole) (a3 : Memref sig .tc .vmem S4096x640 .fp8e5m2) (h3 : a3.IsWhole) (a4 : Memref sig .tc .vmem S32x640 .f32) (h4 : a4.IsWhole) (a5 : Memref sig .tc .vmem S512x640 .f32) (h5 : a5.IsWhole) (a6 : Memref sig .tc .vmem S1x640 .f32) (h6 : a6.IsWhole) (a7 : Memref sig .tc .vmem S512x640 .f32) (h7 : a7.IsWhole) (a8 : Memref sig .tc .vmem S1x640 .f32) (h8 : a8.IsWhole) (a9 : Memref sig .tc .vmem S640x512 .f32) (h9 : a9.IsWhole) (a10 : Memref sig .tc .vmem S8x640 .f32) (h10 : a10.IsWhole) (hc0 : ¬cond0_0 i) (hc1 : cond0_1 i)
    (x0 : Vec F S4096x512 .fp8e4m3) (x1 : Vec F S32x512 .f32) (x2 : Vec F S4096x640 .fp8e5m2) (x3 : Vec F S32x640 .f32) (x4 : Vec F S512x640 .f32) (x5 : Vec F S1x640 .f32) (xs0 : Vec F S640x512 .f32) (xs1 : Vec F S8x640 .f32) :
    out0_C_7 c i a1 h1 a2 h2 a3 h3 a4 h4 a5 h5 a6 h6 a7 h7 a8 h8 a9 h9 a10 h10 hc0 hc1 x0 x1 x2 x3 x4 x5 xs0 xs1 = k0_pay3 x5 (step1 x2 x3 xs1) := by
  unfold out0_C_7
  rw [View.read_writes_eq_canon _ _ _ (cover0_C_7 c i a1 h1 a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz]
  simp only [View.readCov_unit_zero (S := S640x512) _ hz, View.readCov_unit_zero (S := S8x640) _ hz]
  simp only [View.readAt_eq_ld, h1.read_unread, h2.read_unread, h3.read_unread, h4.read_unread, h5.read_unread, h6.read_unread, h9.read_unread, h10.read_unread, View.ld_unit_zero (S := S4096x512) hz, View.ld_unit_zero (S := S32x512) hz, View.ld_unit_zero (S := S4096x640) hz, View.ld_unit_zero (S := S32x640) hz, View.ld_unit_zero (S := S512x640) hz, View.ld_unit_zero (S := S1x640) hz, View.ld_unit_zero (S := S640x512) hz, View.ld_unit_zero (S := S8x640) hz]

end Cert.KernelIdeal.Value
-- ==== Proof.Kernel.lean ====
/-
  WHAT THE KERNEL'S RESULT ARRAYS END HOLDING, for any reading of the floats. The two accumulators after a point are the
  steps of all the blocks so far, in point order, from zero (an induction on the point over the cases Proof/Block.lean
  reads). The two results are written once, at the last point, and their one block is the whole array; the line after
  the region flattens the second.
-/
module

public import proofs.«01_k».proof.Proof.Block
public import Idealize.ShloMosaic.Lib.StableHlo.Run

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The product accumulator after point `n`: one step per block, from zero. -/
def chain0 (c : Dev nD) : (n : ℕ) → n < cfg0.N → Vec F S640x512 .f32
  | 0, h => step0 (iblk m c 0 ⟨0, h⟩) (iblk m c 1 ⟨0, h⟩) (iblk m c 2 ⟨0, h⟩) (iblk m c 3 ⟨0, h⟩) k0_pay4
  | n + 1, h => step0 (iblk m c 0 ⟨n + 1, h⟩) (iblk m c 1 ⟨n + 1, h⟩) (iblk m c 2 ⟨n + 1, h⟩) (iblk m c 3 ⟨n + 1, h⟩)
      (chain0 c n (Nat.lt_of_succ_lt h))

/-- The row-sum accumulator after point `n`: one step per block, from zero. -/
def chain1 (c : Dev nD) : (n : ℕ) → n < cfg0.N → Vec F S8x640 .f32
  | 0, h => step1 (iblk m c 2 ⟨0, h⟩) (iblk m c 3 ⟨0, h⟩) k0_pay5
  | n + 1, h => step1 (iblk m c 2 ⟨n + 1, h⟩) (iblk m c 3 ⟨n + 1, h⟩) (chain1 c n (Nat.lt_of_succ_lt h))

/-- The two accumulators the kernel carries are those chains after every point. -/
theorem scratch_eq (c : Dev nD) : ∀ (n : ℕ) (h : n < cfg0.N),
    (outsAt0 m c n h).2.2.1 = chain0 m c n h ∧ (outsAt0 m c n h).2.2.2 = chain1 m c n h
  | 0, h => by
    have e := outsAt0_A m c ⟨0, h⟩ rfl (show ¬0 % 96 = 95 by decide)
    have e' : outsAt0 m c 0 h = _ := e
    rw [e', sout0_A_0_eq, sout0_A_1_eq]
    exact ⟨rfl, rfl⟩
  | n + 1, h => by
    have hN : cfg0.N = 96 := N_0
    obtain ⟨i0, i1⟩ := scratch_eq c n (Nat.lt_of_succ_lt h)
    have h0 : ¬(⟨n + 1, h⟩ : Fin cfg0.N).val % 96 = 0 := by dsimp only; omega
    by_cases h1 : (⟨n + 1, h⟩ : Fin cfg0.N).val % 96 = 95
    · have e : outsAt0 m c (n + 1) h = _ := outsAt0_C m c ⟨n + 1, h⟩ h0 h1
      rw [e, sout0_C_0_eq, sout0_C_1_eq]
      exact ⟨congrArg (step0 _ _ _ _) i0, congrArg (step1 _ _) i1⟩
    · have e : outsAt0 m c (n + 1) h = _ := outsAt0_B m c ⟨n + 1, h⟩ h0 h1
      rw [e, sout0_B_0_eq, sout0_B_1_eq]
      exact ⟨congrArg (step0 _ _ _ _) i0, congrArg (step1 _ _) i1⟩

/-- The grid's last point. -/
abbrev tl : Fin cfg0.N := ⟨95, by rw [show cfg0.N = 96 from N_0]; decide⟩

/-- The weight-gradient result: the main gradient plus the transposed product accumulator after the last point. -/
abbrev result6 (c : Dev nD) : Buf (Elt F) ((c : Thread nD τ).loc main_v5_0) := k0_pay2 (iblk m c 4 tl) (chain0 m c 95 tl.isLt)

/-- The bias result, as a row: the main bias gradient plus the eight rows of the row-sum accumulator after the last point. -/
abbrev result7 (c : Dev nD) : Buf (Elt F) ((c : Thread nD τ).loc main_v5_1) := k0_pay3 (iblk m c 5 tl) (chain1 m c 95 tl.isLt)

/-- A point of the last case leaves in the results' staging buffers the final sums of the accumulators after it. -/
theorem outs_C (c : Dev nD) (n : ℕ) (h : n + 1 < cfg0.N) (h1 : (n + 1) % 96 = 95) :
    (outsAt0 m c (n + 1) h).1 = k0_pay2 (iblk m c 4 ⟨n + 1, h⟩) (chain0 m c (n + 1) h)
      ∧ (outsAt0 m c (n + 1) h).2.1 = k0_pay3 (iblk m c 5 ⟨n + 1, h⟩) (chain1 m c (n + 1) h) := by
  obtain ⟨i0, i1⟩ := scratch_eq m c n (Nat.lt_of_succ_lt h)
  have h0 : ¬(⟨n + 1, h⟩ : Fin cfg0.N).val % 96 = 0 := by dsimp only; omega
  have e : outsAt0 m c (n + 1) h = _ := outsAt0_C m c ⟨n + 1, h⟩ h0 h1
  rw [e, out0_C_6_eq, out0_C_7_eq]
  exact ⟨congrArg (fun a => k0_pay2 _ (step0 _ _ _ _ a)) i0, congrArg (fun a => k0_pay3 _ (step1 _ _ a)) i1⟩

/-- The last point leaves the two results in their staging buffers. -/
theorem outs_last (c : Dev nD) : (outsAt0 m c 95 tl.isLt).1 = result6 m c ∧ (outsAt0 m c 95 tl.isLt).2.1 = result7 m c :=
  outs_C m c 94 tl.isLt (by decide)

/-- A point that writes a result back is the last one. -/
theorem eq_tl (t : Fin cfg0.N) (h : t.val % 96 = 95) : t = tl := by
  have hN : cfg0.N = 96 := N_0
  exact Fin.ext (by have := t.isLt; show t.val = 95; omega)

/-- The one write-back of the first result writes `result6`: its block is the whole array. -/
theorem flushed6_eq (c : Dev nD) (t : Fin cfg0.N) (hf : (cfg0.win 6).flush t = true) :
    (dats m 0 c).flushed 6 t = ((cfg0.win 6).blk t).view.read (Elt F) (result6 m c) := by
  obtain rfl := eq_tl t ((flush0_6 t).mp hf)
  show (cfg0.win 6).cut (grid0.coords tl) ((dats m 0 c).after 6 tl) = _
  rw [after0_6, show (outsAt0 m c tl.val tl.isLt).1 = result6 m c from (outs_last m c).1]
  have hz' : (fun a => win0_6.index tl a * main_v5_0.ty.shape.size a) = fun _ => 0 := funext fun a => by fin_cases a <;> decide
  exact (Memref.read_access_unit_zero (Elt F) main_v5_0 hz' (fun a => by rw [congrFun hz' a]; simp) (result6 m c)).symm

/-- The one write-back of the second result writes `result7`: its block is the whole array. -/
theorem flushed7_eq (c : Dev nD) (t : Fin cfg0.N) (hf : (cfg0.win 7).flush t = true) :
    (dats m 0 c).flushed 7 t = ((cfg0.win 7).blk t).view.read (Elt F) (result7 m c) := by
  obtain rfl := eq_tl t ((flush0_7 t).mp hf)
  show (cfg0.win 7).cut (grid0.coords tl) ((dats m 0 c).after 7 tl) = _
  rw [after0_7, show (outsAt0 m c tl.val tl.isLt).2.1 = result7 m c from (outs_last m c).2]
  have hz' : (fun a => win0_7.index tl a * main_v5_1.ty.shape.size a) = fun _ => 0 := funext fun a => by fin_cases a <;> decide
  exact (Memref.read_access_unit_zero (Elt F) main_v5_1 hz' (fun a => by rw [congrFun hz' a]; simp) (result7 m c)).symm

/-- So the first result's array ends holding `result6`. -/
theorem final6 (c : Dev nD) : (dats m 0 c).arrAt 6 cfg0.N = result6 m c :=
  (dats m 0 c).arrAt_eq_of_cover 6 (result6 m c) (flushed6_eq m c) fun i =>
    ⟨tl, (flush0_6 tl).mpr (show 95 % 96 = 95 by decide), by
      show i ∈ ((View.whole main_v5_0).slice (win0_6.rect tl)).set
      rw [View.set_slice_whole, Rect.mem_set_unit]
      intro a
      have h0 : (i 0 : Nat) < 512 := (i 0).isLt
      have h1 : (i 1 : Nat) < 640 := (i 1).isLt
      match a with
      | ⟨0, _⟩ => show win0_6.index tl 0 * win0_6.size 0 ≤ (i 0 : Nat) ∧ (i 0 : Nat) < win0_6.index tl 0 * win0_6.size 0 + win0_6.xsize (grid0.coords tl) 0
                  rw [show win0_6.index tl 0 * win0_6.size 0 = 0 from by decide +kernel, show win0_6.xsize (grid0.coords tl) 0 = 512 from by decide +kernel]; omega
      | ⟨1, _⟩ => show win0_6.index tl 1 * win0_6.size 1 ≤ (i 1 : Nat) ∧ (i 1 : Nat) < win0_6.index tl 1 * win0_6.size 1 + win0_6.xsize (grid0.coords tl) 1
                  rw [show win0_6.index tl 1 * win0_6.size 1 = 0 from by decide +kernel, show win0_6.xsize (grid0.coords tl) 1 = 640 from by decide +kernel]; omega⟩

/-- So the second result's array ends holding `result7`. -/
theorem final7 (c : Dev nD) : (dats m 0 c).arrAt 7 cfg0.N = result7 m c :=
  (dats m 0 c).arrAt_eq_of_cover 7 (result7 m c) (flushed7_eq m c) fun i =>
    ⟨tl, (flush0_7 tl).mpr (show 95 % 96 = 95 by decide), by
      show i ∈ ((View.whole main_v5_1).slice (win0_7.rect tl)).set
      rw [View.set_slice_whole, Rect.mem_set_unit]
      intro a
      have h0 : (i 0 : Nat) < 1 := (i 0).isLt
      have h1 : (i 1 : Nat) < 640 := (i 1).isLt
      match a with
      | ⟨0, _⟩ => show win0_7.index tl 0 * win0_7.size 0 ≤ (i 0 : Nat) ∧ (i 0 : Nat) < win0_7.index tl 0 * win0_7.size 0 + win0_7.xsize (grid0.coords tl) 0
                  rw [show win0_7.index tl 0 * win0_7.size 0 = 0 from by decide +kernel, show win0_7.xsize (grid0.coords tl) 0 = 1 from by decide +kernel]; omega
      | ⟨1, _⟩ => show win0_7.index tl 1 * win0_7.size 1 ≤ (i 1 : Nat) ∧ (i 1 : Nat) < win0_7.index tl 1 * win0_7.size 1 + win0_7.xsize (grid0.coords tl) 1
                  rw [show win0_7.index tl 1 * win0_7.size 1 = 0 from by decide +kernel, show win0_7.xsize (grid0.coords tl) 1 = 640 from by decide +kernel]; omega⟩

/-- The flattened bias result: the row without its unit axis. -/
abbrev result7flat (c : Dev nD) : Buf (Elt F) ((c : Thread nD τ).loc main_v6) :=
  shapeCast S640 (result7 m c : Vec F S1x640 .f32) shapeCasts_S1x640_S640

/-- The line after the region leaves the bias result's row, flattened, in @main's second result. -/
theorem tail7 (c : Dev nD) : Pipeline.afterTail₀ cfgs (dats m) 0 (V0 m) [hostOps1] c main_v6 = result7flat m c := by
  unfold Pipeline.afterTail₀
  have e : Pipeline.withArrays (cfgs 0).spec c (V0 m c) (fun w => (dats m 0 c).arrAt w (cfgs 0).N) (Proc.devRef .tc main_v5_1)
      = result7 m c :=
    (Pipeline.withArrays_arr (cfgs 0).spec launch0.win.arr_inj c (V0 m c) (fun w => (dats m 0 c).arrAt w (cfgs 0).N) 7).trans (final7 m c)
  simp only [hostOps1, List.flatten_cons, List.flatten_nil, List.append_nil]
  after_results_simp
  rw [e]
  rfl

/-- The run, read: the two results of @main, and the six arguments unchanged. -/
theorem run : θ_run defs (onTc (τ := τ) (main (F := F))) ⟨m, fun _ => 0, ρ⟩ fun r => ∀ c : Dev nD,
      r.2.mem ((c : Thread nD τ).loc main_v5_0) = result6 m c
      ∧ r.2.mem ((c : Thread nD τ).loc main_v6) = result7flat m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final6 m c),
      ((h c).2 main_v6 (Pipeline.mem_restRefs_of main_v6 (by decide) (by decide))).trans (tail7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩) (run_main m ρ)

end Cert.KernelIdeal.Value
-- ==== Proof.Rows.lean ====
/-
  THE VALUE BOTH PROGRAMS COMPUTE, over the extended reals. A dequantized row is the row of eight-bit entries times the
  row of scales of its group of 128 rows; the 12 batches of 32768 rows are numbered through as 393216 rows. The weight
  gradient adds to the main gradient the sum over all rows of the products of a dequantized gradient entry and a
  dequantized activation entry; the bias gradient adds to the main bias gradient the sum of the dequantized gradient
  rows.
-/
module

public import Idealize.ShloMosaic.Lib.Pointwise

@[expose] public section

noncomputable section

open scoped BigOperators

namespace Cert.Rows

open Idealize.ShloMosaic

/-- Entry `i` of the dequantized row `r` of all the batches' rows: the entry times its group's scale. -/
def row {w : ℕ} (x : (⟨3, ![12, 32768, w]⟩ : Shape).Idx → EReal) (s : (⟨3, ![12, 256, w]⟩ : Shape).Idx → EReal) (r : ℕ) (i : Fin w) : EReal :=
  x (ix3 ⟨r / 32768 % 12, Nat.mod_lt _ (by decide)⟩ ⟨r % 32768, Nat.mod_lt _ (by decide)⟩ i)
    * s (ix3 ⟨r / 32768 % 12, Nat.mod_lt _ (by decide)⟩ ⟨r / 128 % 256, Nat.mod_lt _ (by decide)⟩ i)

/-- A dequantized row's entry by the row's batch, its place in the batch, and its group in the batch. -/
theorem row_at {w : ℕ} (x : (⟨3, ![12, 32768, w]⟩ : Shape).Idx → EReal) (s : (⟨3, ![12, 256, w]⟩ : Shape).Idx → EReal) (r : ℕ) (i : Fin w)
    (b b' : Fin 12) (q : Fin 32768) (n : Fin 256) (hb : b.val = r / 32768) (hb' : b'.val = r / 32768) (hq : q.val = r % 32768)
    (hn : n.val = r / 128 % 256) : row x s r i = x (ix3 b q i) * s (ix3 b' n i) := by
  have eb : (⟨r / 32768 % 12, Nat.mod_lt _ (by decide)⟩ : Fin 12) = b := Fin.ext (by have := b.isLt; show r / 32768 % 12 = _; omega)
  have eb' : b' = b := Fin.ext (by omega)
  have eq : (⟨r % 32768, Nat.mod_lt _ (by decide)⟩ : Fin 32768) = q := Fin.ext hq.symm
  have en : (⟨r / 128 % 256, Nat.mod_lt _ (by decide)⟩ : Fin 256) = n := Fin.ext hn.symm
  unfold row
  rw [eb, eq, en, eb']

/-- The weight gradient: the main gradient plus the sum over all rows of gradient entry times activation entry. -/
def wgrad (x : (⟨3, ![12, 32768, 512]⟩ : Shape).Idx → EReal) (xs : (⟨3, ![12, 256, 512]⟩ : Shape).Idx → EReal)
    (dy : (⟨3, ![12, 32768, 640]⟩ : Shape).Idx → EReal) (dys : (⟨3, ![12, 256, 640]⟩ : Shape).Idx → EReal)
    (w : (⟨2, ![512, 640]⟩ : Shape).Idx → EReal) (j : (⟨2, ![512, 640]⟩ : Shape).Idx) : EReal :=
  w j + ∑ r ∈ Finset.range 393216, row dy dys r (j 1) * row x xs r (j 0)

/-- The bias gradient: the main bias gradient plus the sum over all rows of the gradient entries. -/
def bgrad (dy : (⟨3, ![12, 32768, 640]⟩ : Shape).Idx → EReal) (dys : (⟨3, ![12, 256, 640]⟩ : Shape).Idx → EReal)
    (b : (⟨1, ![640]⟩ : Shape).Idx → EReal) (j : (⟨1, ![640]⟩ : Shape).Idx) : EReal :=
  b j + ∑ r ∈ Finset.range 393216, row dy dys r (j 0)

end Cert.Rows
-- ==== Proof.Sums.lean ====
/-
  SUMS OVER ROWS. A sum over the first `a * b` rows is the sum over `a` blocks of `b` rows each. Both programs' sums are
  sums over all 393216 rows, cut differently: the kernel's into 96 blocks of 4096 (and each of these into 512 groups of
  eight for the bias), the reference's into 12 batches of 256 groups of 128.
-/
module

public import Mathlib.Algebra.BigOperators.Fin
public import Mathlib.Algebra.BigOperators.Intervals

@[expose] public section

open scoped BigOperators

namespace Cert.Rows

variable {M : Type*} [AddCommMonoid M]

/-- The first `a * b` rows are `a` blocks of `b` rows. -/
theorem sum_blocks (f : ℕ → M) (a b : ℕ) :
    ∑ i ∈ Finset.range a, ∑ j : Fin b, f (b * i + j.val) = ∑ r ∈ Finset.range (a * b), f r := by
  induction a with
  | zero => simp
  | succ a ih =>
    rw [Finset.sum_range_succ, ih, Nat.succ_mul, Finset.sum_range_add, Fin.sum_univ_eq_sum_range (fun j => f (b * a + j)) b,
      Nat.mul_comm a b]

/-- The same over `Fin` on both axes. -/
theorem sum_blocks_fin (f : ℕ → M) (a b : ℕ) :
    ∑ i : Fin a, ∑ j : Fin b, f (b * i.val + j.val) = ∑ r ∈ Finset.range (a * b), f r := by
  rw [← sum_blocks f a b, Fin.sum_univ_eq_sum_range (fun i => ∑ j : Fin b, f (b * i + j.val)) a]

/-- The kernel's cut for the product: 96 blocks of 4096 rows. -/
theorem sum_kernel (f : ℕ → M) :
    ∑ s ∈ Finset.range 96, ∑ k : Fin 4096, f (4096 * s + k.val) = ∑ r ∈ Finset.range 393216, f r :=
  sum_blocks f 96 4096

/-- The kernel's cut for the bias: eight row residues, each over 96 blocks of 512 groups of eight rows. -/
theorem sum_kernel_bias (f : ℕ → M) :
    ∑ r : Fin 8, ∑ s ∈ Finset.range 96, ∑ q : Fin 512, f (4096 * s + (8 * q.val + r.val)) = ∑ r ∈ Finset.range 393216, f r := by
  rw [Finset.sum_comm, ← sum_kernel f]
  refine Finset.sum_congr rfl fun s _ => ?_
  rw [Finset.sum_comm, sum_blocks_fin (fun j => f (4096 * s + j)) 512 8,
    Fin.sum_univ_eq_sum_range (fun j => f (4096 * s + j)) 4096]

/-- The reference's cut: 12 batches of 256 groups of 128 rows. -/
theorem sum_reference (f : ℕ → M) :
    ∑ b : Fin 12, ∑ n : Fin 256, ∑ t : Fin 128, f (32768 * b.val + (128 * n.val + t.val)) = ∑ r ∈ Finset.range 393216, f r := by
  rw [← sum_blocks_fin f 12 32768]
  refine Finset.sum_congr rfl fun b _ => ?_
  rw [sum_blocks_fin (fun j => f (32768 * b.val + j)) 256 128, Fin.sum_univ_eq_sum_range (fun j => f (32768 * b.val + j)) 32768]

end Cert.Rows
-- ==== Proof.Entry.lean ====
/-
  THE KERNEL'S STEPS AND FINAL SUMS READ AT AN INDEX, over the extended reals, and its input blocks as rows of the
  argument arrays. At point `t` the four moving windows hold rows `4096 t` to `4096 t + 4095` of the entries and rows
  `32 t` to `32 t + 31` of the scales, all of the arrays with batch and row numbered through.
-/
module

public import proofs.«01_k».proof.Proof.Kernel
public import proofs.«01_k».proof.Proof.Rows
public import proofs.«01_k».proof.Proof.Sums

@[expose] public section

set_option maxRecDepth 16384

noncomputable section

open scoped BigOperators

namespace Cert.KernelIdeal.Value

open Cert.KernelIdeal Cert.KernelIdeal.Gen Cert.Rows Idealize.ShloMosaic Idealize.ShloMosaic.TcCoe Idealize.SL.Sem

/-! ## The payloads at an index -/

/-- The product accumulator's step: entry (o, i) gains the sum over the block's rows of gradient times activation. -/
theorem step0_apply (x0 : Vec Ideal S4096x512 .fp8e4m3) (x1 : Vec Ideal S32x512 .f32) (x2 : Vec Ideal S4096x640 .fp8e5m2)
    (x3 : Vec Ideal S32x640 .f32) (acc : Vec Ideal S640x512 .f32) (o : Fin 640) (i : Fin 512) :
    step0 x0 x1 x2 x3 acc (ix2 o i) = acc (ix2 o i) + ∑ k : Fin 4096,
      x2 (ix2 k o) * x3 (ix2 ⟨k.val / 128, by omega⟩ o) * (x0 (ix2 k i) * x1 (ix2 ⟨k.val / 128, by omega⟩ i)) := by
  pointwise [step0, k0_pay7, k0_pay6]

/-- The row-sum accumulator's step: row `r` gains the block's rows `8 q + r`. -/
theorem step1_apply (x2 : Vec Ideal S4096x640 .fp8e5m2) (x3 : Vec Ideal S32x640 .f32) (acc : Vec Ideal S8x640 .f32)
    (r : Fin 8) (o : Fin 640) :
    step1 x2 x3 acc (ix2 r o) = acc (ix2 r o) + ∑ q : Fin 512,
      x2 (ix2 ⟨8 * q.val + r.val, by omega⟩ o) * x3 (ix2 ⟨(8 * q.val + r.val) / 128, by omega⟩ o) := by
  pointwise [step1, k0_pay1, k0_pay8, k0_pay6]
  refine congrArg (acc (ix2 r o) + ·) (Finset.sum_congr rfl fun q _ => ?_)
  have e : ∀ h, (⟨(q.val * 8 + r.val) / 128 * 128 + (q.val * 8 + r.val) % 128, h⟩ : Fin 4096) = ⟨8 * q.val + r.val, by omega⟩ :=
    fun h => Fin.ext (by dsimp only; omega)
  have e' : ∀ h, (⟨(q.val * 8 + r.val) / 128, h⟩ : Fin 32) = ⟨(8 * q.val + r.val) / 128, by omega⟩ :=
    fun h => Fin.ext (by dsimp only; omega)
  rw [e, e']

/-- The product accumulator starts at zero. -/
theorem zero0_apply (o : Fin 640) (i : Fin 512) : (k0_pay4 (F := Ideal)) (ix2 o i) = 0 := by
  pointwise [k0_pay4]

/-- The row-sum accumulator starts at zero. -/
theorem zero1_apply (r : Fin 8) (o : Fin 640) : (k0_pay5 (F := Ideal)) (ix2 r o) = 0 := by
  pointwise [k0_pay5]

/-- The weight-gradient result at an index: main gradient plus the accumulator's transposed entry. -/
theorem out6_apply (w : Vec Ideal S512x640 .f32) (acc : Vec Ideal S640x512 .f32) (i : Fin 512) (o : Fin 640) :
    k0_pay2 w acc (ix2 i o) = w (ix2 i o) + acc (ix2 o i) := by
  pointwise [k0_pay2]

/-- The bias result's row at an index: main bias gradient plus the accumulator's eight rows. -/
theorem out7_apply (b : Vec Ideal S1x640 .f32) (acc : Vec Ideal S8x640 .f32) (o : Fin 640) :
    k0_pay3 b acc (ix2 0 o) = b (ix2 0 o) + ∑ r : Fin 8, acc (ix2 r o) := by
  pointwise [k0_pay3]

/-! ## The input blocks -/

section Blocks
variable {F : FTy → Type} [FloatOps F]
variable (m : (ℓ : Loc nD τ sig) → Buf (Elt F) ℓ)

/-- Before the region the activations are reshaped to one run of rows. -/
theorem V_v0 (c : Dev nD) : (V m c main_v0 : Vec F S393216x512 .fp8e4m3)
    = shapeCast S393216x512 (m ((c : Thread nD τ).loc main_arg0) : Vec F S12x32768x512 .fp8e4m3) shapeCasts_S12x32768x512_S393216x512 := by
  simp only [V, V0, hostOps0, List.flatten_cons, List.flatten_nil, List.append_nil]
  after_results_simp
  rfl

/-- Before the region the gradients are reshaped to one run of rows. -/
theorem V_v1 (c : Dev nD) : (V m c main_v1 : Vec F S393216x640 .fp8e5m2)
    = shapeCast S393216x640 (m ((c : Thread nD τ).loc main_arg2) : Vec F S12x32768x640 .fp8e5m2) shapeCasts_S12x32768x640_S393216x640 := by
  simp only [V, V0, hostOps0, List.flatten_cons, List.flatten_nil, List.append_nil]
  after_results_simp
  rfl

/-- Before the region the activation scales are reshaped to one run of rows. -/
theorem V_v2 (c : Dev nD) : (V m c main_v2 : Vec F S3072x512 .f32)
    = shapeCast S3072x512 (m ((c : Thread nD τ).loc main_arg1) : Vec F S12x256x512 .f32) shapeCasts_S12x256x512_S3072x512 := by
  simp only [V, V0, hostOps0, List.flatten_cons, List.flatten_nil, List.append_nil]
  after_results_simp
  rfl

/-- Before the region the gradient scales are reshaped to one run of rows. -/
theorem V_v3 (c : Dev nD) : (V m c main_v3 : Vec F S3072x640 .f32)
    = shapeCast S3072x640 (m ((c : Thread nD τ).loc main_arg3) : Vec F S12x256x640 .f32) shapeCasts_S12x256x640_S3072x640 := by
  simp only [V, V0, hostOps0, List.flatten_cons, List.flatten_nil, List.append_nil]
  after_results_simp
  rfl

/-- Before the region the main bias gradient is reshaped to a row. -/
theorem V_v4 (c : Dev nD) : (V m c main_v4 : Vec F S1x640 .f32)
    = shapeCast S1x640 (m ((c : Thread nD τ).loc main_arg5) : Vec F S640 .f32) shapeCasts_S640_S1x640 := by
  simp only [V, V0, hostOps0, List.flatten_cons, List.flatten_nil, List.append_nil]
  after_results_simp
  rfl

/-- The moving windows' block indices at point `t`: row block `t`, the one column block. -/
theorem idx_moving : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

/-- The resting windows' block indices at the last point. -/
theorem idx_resting : (win0_4.index tl 0 = 0 ∧ win0_4.index tl 1 = 0) ∧ (win0_5.index tl 0 = 0 ∧ win0_5.index tl 1 = 0) := by
  decide +kernel

/-- The activation block at point `t` is rows `4096 t …` of the run of rows. -/
theorem iblk0_apply (c : Dev nD) (t : Fin cfg0.N) (k : Fin 4096) (i : Fin 512) (h : 4096 * t.val + k.val < 393216) :
    (iblk m c 0 t : Vec F S4096x512 .fp8e4m3) (ix2 k i) = (V m c main_v0 : Vec F S393216x512 .fp8e4m3) (ix2 ⟨4096 * t.val + k.val, h⟩ i) := by
  obtain ⟨⟨e0, e1⟩, -⟩ := idx_moving t
  unfold iblk
  rw [View.read_apply]
  show V m c main_v0 _ = V m c main_v0 _
  congr 1
  funext a
  apply Fin.ext
  match a with
  | ⟨0, _⟩ => show win0_0.index t 0 * 4096 + 1 * k.val = 4096 * t.val + k.val; rw [e0]; omega
  | ⟨1, _⟩ => show win0_0.index t 1 * 512 + 1 * i.val = i.val; rw [e1]; omega

/-- The activation scales' block at point `t` is rows `32 t …`. -/
theorem iblk1_apply (c : Dev nD) (t : Fin cfg0.N) (k : Fin 32) (i : Fin 512) (h : 32 * t.val + k.val < 3072) :
    (iblk m c 1 t : Vec F S32x512 .f32) (ix2 k i) = (V m c main_v2 : Vec F S3072x512 .f32) (ix2 ⟨32 * t.val + k.val, h⟩ i) := by
  obtain ⟨-, ⟨e0, e1⟩, -⟩ := idx_moving t
  unfold iblk
  rw [View.read_apply]
  show V m c main_v2 _ = V m c main_v2 _
  congr 1
  funext a
  apply Fin.ext
  match a with
  | ⟨0, _⟩ => show win0_1.index t 0 * 32 + 1 * k.val = 32 * t.val + k.val; rw [e0]; omega
  | ⟨1, _⟩ => show win0_1.index t 1 * 512 + 1 * i.val = i.val; rw [e1]; omega

/-- The gradient block at point `t` is rows `4096 t …`. -/
theorem iblk2_apply (c : Dev nD) (t : Fin cfg0.N) (k : Fin 4096) (o : Fin 640) (h : 4096 * t.val + k.val < 393216) :
    (iblk m c 2 t : Vec F S4096x640 .fp8e5m2) (ix2 k o) = (V m c main_v1 : Vec F S393216x640 .fp8e5m2) (ix2 ⟨4096 * t.val + k.val, h⟩ o) := by
  obtain ⟨-, -, ⟨e0, e1⟩, -⟩ := idx_moving t
  unfold iblk
  rw [View.read_apply]
  show V m c main_v1 _ = V m c main_v1 _
  congr 1
  funext a
  apply Fin.ext
  match a with
  | ⟨0, _⟩ => show win0_2.index t 0 * 4096 + 1 * k.val = 4096 * t.val + k.val; rw [e0]; omega
  | ⟨1, _⟩ => show win0_2.index t 1 * 640 + 1 * o.val = o.val; rw [e1]; omega

/-- The gradient scales' block at point `t` is rows `32 t …`. -/
theorem iblk3_apply (c : Dev nD) (t : Fin cfg0.N) (k : Fin 32) (o : Fin 640) (h : 32 * t.val + k.val < 3072) :
    (iblk m c 3 t : Vec F S32x640 .f32) (ix2 k o) = (V m c main_v3 : Vec F S3072x640 .f32) (ix2 ⟨32 * t.val + k.val, h⟩ o) := by
  obtain ⟨-, -, -, e0, e1⟩ := idx_moving t
  unfold iblk
  rw [View.read_apply]
  show V m c main_v3 _ = V m c main_v3 _
  congr 1
  funext a
  apply Fin.ext
  match a with
  | ⟨0, _⟩ => show win0_3.index t 0 * 32 + 1 * k.val = 32 * t.val + k.val; rw [e0]; omega
  | ⟨1, _⟩ => show win0_3.index t 1 * 640 + 1 * o.val = o.val; rw [e1]; omega

/-- The main gradient's block at the last point is the array. -/
theorem iblk4_apply (c : Dev nD) (i : Fin 512) (o : Fin 640) :
    (iblk m c 4 tl : Vec F S512x640 .f32) (ix2 i o) = (m ((c : Thread nD τ).loc main_arg4) : Vec F S512x640 .f32) (ix2 i o) := by
  obtain ⟨⟨e0, e1⟩, -⟩ := idx_resting
  unfold iblk
  rw [View.read_apply, ← V_main_arg4 m c]
  show V m c main_arg4 _ = V m c main_arg4 _
  congr 1
  funext a
  apply Fin.ext
  match a with
  | ⟨0, _⟩ => show win0_4.index tl 0 * 512 + 1 * i.val = i.val; rw [e0]; omega
  | ⟨1, _⟩ => show win0_4.index tl 1 * 640 + 1 * o.val = o.val; rw [e1]; omega

/-- The main bias gradient's block at the last point is the row. -/
theorem iblk5_apply (c : Dev nD) (o : Fin 640) :
    (iblk m c 5 tl : Vec F S1x640 .f32) (ix2 0 o) = (V m c main_v4 : Vec F S1x640 .f32) (ix2 0 o) := by
  obtain ⟨-, e0, e1⟩ := idx_resting
  unfold iblk
  rw [View.read_apply]
  show V m c main_v4 _ = V m c main_v4 _
  congr 1
  funext a
  apply Fin.ext
  match a with
  | ⟨0, _⟩ => show win0_5.index tl 0 * 1 + 1 * 0 = 0; rw [e0]
  | ⟨1, _⟩ => show win0_5.index tl 1 * 640 + 1 * o.val = o.val; rw [e1]; omega

end Blocks

/-! ## The reshaped arrays at an index -/

/-- The activations as one run of rows, read at an index: batch is the row's quotient by 32768, row in the batch the remainder. -/
theorem flat_x_apply (x : Vec Ideal S12x32768x512 .fp8e4m3) (r : Fin 393216) (i : Fin 512) :
    shapeCast S393216x512 x shapeCasts_S12x32768x512_S393216x512 (ix2 r i)
      = x (ix3 ⟨r.val / 32768, by omega⟩ ⟨r.val % 32768, Nat.mod_lt _ (by decide)⟩ i) := by
  pointwise

/-- The activation scales as one run of rows, read at an index: batch is the row's quotient by 256, row in the batch the remainder. -/
theorem flat_xs_apply (x : Vec Ideal S12x256x512 .f32) (r : Fin 3072) (i : Fin 512) :
    shapeCast S3072x512 x shapeCasts_S12x256x512_S3072x512 (ix2 r i)
      = x (ix3 ⟨r.val / 256, by omega⟩ ⟨r.val % 256, Nat.mod_lt _ (by decide)⟩ i) := by
  pointwise

/-- The gradients as one run of rows, read at an index: batch is the row's quotient by 32768, row in the batch the remainder. -/
theorem flat_dy_apply (x : Vec Ideal S12x32768x640 .fp8e5m2) (r : Fin 393216) (i : Fin 640) :
    shapeCast S393216x640 x shapeCasts_S12x32768x640_S393216x640 (ix2 r i)
      = x (ix3 ⟨r.val / 32768, by omega⟩ ⟨r.val % 32768, Nat.mod_lt _ (by decide)⟩ i) := by
  pointwise

/-- The gradient scales as one run of rows, read at an index: batch is the row's quotient by 256, row in the batch the remainder. -/
theorem flat_dys_apply (x : Vec Ideal S12x256x640 .f32) (r : Fin 3072) (i : Fin 640) :
    shapeCast S3072x640 x shapeCasts_S12x256x640_S3072x640 (ix2 r i)
      = x (ix3 ⟨r.val / 256, by omega⟩ ⟨r.val % 256, Nat.mod_lt _ (by decide)⟩ i) := by
  pointwise

end Cert.KernelIdeal.Value
-- ==== Proof.Value.lean ====
/-
  THE KERNEL'S TWO RESULTS ARE THE GRADIENTS, over the extended reals: each accumulator after point `n` holds the sums
  over the first `n + 1` blocks of rows, so after the last point the sums over all the rows.
-/
module

public import proofs.«01_k».proof.Proof.Entry

@[expose] public section

set_option maxRecDepth 16384

noncomputable section

open scoped BigOperators

namespace Cert.KernelIdeal.Value

open Cert.KernelIdeal Cert.KernelIdeal.Gen Cert.Rows Idealize.ShloMosaic Idealize.ShloMosaic.TcCoe Idealize.SL.Sem

variable (m : (ℓ : Loc nD τ sig) → Buf (Elt Ideal) ℓ)

/-- The activations' argument array. -/
abbrev ax (c : Dev nD) : Vec Ideal S12x32768x512 .fp8e4m3 := m ((c : Thread nD τ).loc main_arg0)
/-- The activation scales' argument array. -/
abbrev axs (c : Dev nD) : Vec Ideal S12x256x512 .f32 := m ((c : Thread nD τ).loc main_arg1)
/-- The gradients' argument array. -/
abbrev ady (c : Dev nD) : Vec Ideal S12x32768x640 .fp8e5m2 := m ((c : Thread nD τ).loc main_arg2)
/-- The gradient scales' argument array. -/
abbrev adys (c : Dev nD) : Vec Ideal S12x256x640 .f32 := m ((c : Thread nD τ).loc main_arg3)
/-- The main gradient's argument array. -/
abbrev aw (c : Dev nD) : Vec Ideal S512x640 .f32 := m ((c : Thread nD τ).loc main_arg4)
/-- The main bias gradient's argument array. -/
abbrev ab (c : Dev nD) : Vec Ideal S640 .f32 := m ((c : Thread nD τ).loc main_arg5)

/-- The activations' block at a point. -/
abbrev bx (c : Dev nD) (t : Fin cfg0.N) : Vec Ideal S4096x512 .fp8e4m3 := iblk m c 0 t
/-- The activation scales' block at a point. -/
abbrev bxs (c : Dev nD) (t : Fin cfg0.N) : Vec Ideal S32x512 .f32 := iblk m c 1 t
/-- The gradients' block at a point. -/
abbrev bdy (c : Dev nD) (t : Fin cfg0.N) : Vec Ideal S4096x640 .fp8e5m2 := iblk m c 2 t
/-- The gradient scales' block at a point. -/
abbrev bdys (c : Dev nD) (t : Fin cfg0.N) : Vec Ideal S32x640 .f32 := iblk m c 3 t

/-- A block's activation entry times its scale is the dequantized row's entry. -/
theorem block_x (c : Dev nD) (t : Fin cfg0.N) (k : Fin 4096) (g : Fin 32) (hg : g.val = k.val / 128) (i : Fin 512) :
    bx m c t (ix2 k i) * bxs m c t (ix2 g i)
      = row (w := 512) (ax m c) (axs m c) (4096 * t.val + k.val) i := by
  have ht : t.val < 96 := t.isLt
  have hk := k.isLt
  have e0 : bx m c t (ix2 k i) = _ := (iblk0_apply m c t k i (by omega)).trans (congrFun (V_v0 m c) _)
  have e1 : bxs m c t (ix2 g i) = _ := (iblk1_apply m c t g i (by omega)).trans (congrFun (V_v2 m c) _)
  rw [e0, e1, flat_x_apply, flat_xs_apply]
  refine (row_at (w := 512) (ax m c) (axs m c) _ i _ _ _ _ ?_ ?_ ?_ ?_).symm <;> dsimp only <;> omega

/-- A block's gradient entry times its scale is the dequantized row's entry. -/
theorem block_dy (c : Dev nD) (t : Fin cfg0.N) (k : Fin 4096) (g : Fin 32) (hg : g.val = k.val / 128) (o : Fin 640) :
    bdy m c t (ix2 k o) * bdys m c t (ix2 g o)
      = row (w := 640) (ady m c) (adys m c) (4096 * t.val + k.val) o := by
  have ht : t.val < 96 := t.isLt
  have hk := k.isLt
  have e0 : bdy m c t (ix2 k o) = _ := (iblk2_apply m c t k o (by omega)).trans (congrFun (V_v1 m c) _)
  have e1 : bdys m c t (ix2 g o) = _ := (iblk3_apply m c t g o (by omega)).trans (congrFun (V_v3 m c) _)
  rw [e0, e1, flat_dy_apply, flat_dys_apply]
  refine (row_at (w := 640) (ady m c) (adys m c) _ o _ _ _ _ ?_ ?_ ?_ ?_).symm <;> dsimp only <;> omega

/-- One point's product step on the blocks it reads. -/
theorem step0_block (c : Dev nD) (t : Fin cfg0.N) (acc : Vec Ideal S640x512 .f32) (o : Fin 640) (i : Fin 512) :
    step0 (iblk m c 0 t) (iblk m c 1 t) (iblk m c 2 t) (iblk m c 3 t) acc (ix2 o i) = acc (ix2 o i) + ∑ k : Fin 4096,
      row (w := 640) (ady m c) (adys m c) (4096 * t.val + k.val) o * row (w := 512) (ax m c) (axs m c) (4096 * t.val + k.val) i := by
  rw [step0_apply]
  refine congrArg (acc (ix2 o i) + ·) (Finset.sum_congr rfl fun k _ => ?_)
  exact congrArg₂ (· * ·) (block_dy m c t k _ rfl o) (block_x m c t k _ rfl i)

/-- One point's row-sum step on the blocks it reads. -/
theorem step1_block (c : Dev nD) (t : Fin cfg0.N) (acc : Vec Ideal S8x640 .f32) (r : Fin 8) (o : Fin 640) :
    step1 (iblk m c 2 t) (iblk m c 3 t) acc (ix2 r o) = acc (ix2 r o) + ∑ q : Fin 512,
      row (w := 640) (ady m c) (adys m c) (4096 * t.val + (8 * q.val + r.val)) o := by
  rw [step1_apply]
  exact congrArg (acc (ix2 r o) + ·) (Finset.sum_congr rfl fun q _ => block_dy m c t _ _ rfl o)

/-- After point `n` the product accumulator holds the sums over the first `n + 1` blocks. -/
theorem chain0_apply (c : Dev nD) (o : Fin 640) (i : Fin 512) : ∀ (n : ℕ) (h : n < cfg0.N),
    chain0 m c n h (ix2 o i) = ∑ s ∈ Finset.range (n + 1), ∑ k : Fin 4096,
      row (w := 640) (ady m c) (adys m c) (4096 * s + k.val) o * row (w := 512) (ax m c) (axs m c) (4096 * s + k.val) i
  | 0, h => by
    rw [chain0, step0_block, zero0_apply, Finset.sum_range_one, zero_add]
  | n + 1, h => by
    rw [chain0, step0_block, chain0_apply c o i n (Nat.lt_of_succ_lt h), Finset.sum_range_succ _ (n + 1)]

/-- After point `n` the row-sum accumulator holds the sums over the first `n + 1` blocks. -/
theorem chain1_apply (c : Dev nD) (r : Fin 8) (o : Fin 640) : ∀ (n : ℕ) (h : n < cfg0.N),
    chain1 m c n h (ix2 r o) = ∑ s ∈ Finset.range (n + 1), ∑ q : Fin 512,
      row (w := 640) (ady m c) (adys m c) (4096 * s + (8 * q.val + r.val)) o
  | 0, h => by
    rw [chain1, step1_block, zero1_apply, Finset.sum_range_one, zero_add]
  | n + 1, h => by
    rw [chain1, step1_block, chain1_apply c r o n (Nat.lt_of_succ_lt h), Finset.sum_range_succ _ (n + 1)]

/-- The kernel's first result is the weight gradient. -/
theorem result6_eq (c : Dev nD) : result6 m c = wgrad (ax m c) (axs m c) (ady m c) (adys m c) (aw m c) := by
  funext j
  obtain ⟨i, o, rfl⟩ : ∃ (i : Fin 512) (o : Fin 640), j = ix2 i o := ⟨j 0, j 1, eq_ix2 j⟩
  refine (out6_apply _ _ i o).trans ?_
  rw [iblk4_apply, chain0_apply]
  exact congrArg (aw m c (ix2 i o) + ·)
    (sum_kernel fun r => row (w := 640) (ady m c) (adys m c) r o * row (w := 512) (ax m c) (axs m c) r i)

/-- The kernel's second result is the bias gradient. -/
theorem result7flat_eq (c : Dev nD) : result7flat m c = bgrad (ady m c) (adys m c) (ab m c) := by
  funext j
  obtain ⟨o, rfl⟩ : ∃ (o : Fin 640), j = ix1 o := ⟨j 0, eq_ix1 j⟩
  have e : result7flat m c (ix1 o) = (result7 m c : Vec Ideal S1x640 .f32) (ix2 0 o) := by
    pointwise [result7flat]
  have e4 : (V m c main_v4 : Vec Ideal S1x640 .f32) (ix2 0 o) = ab m c (ix1 o) := by
    rw [V_v4]
    pointwise
  rw [e]
  refine (out7_apply _ _ o).trans ?_
  rw [iblk5_apply, e4]
  refine congrArg (ab m c (ix1 o) + ·) ((Finset.sum_congr rfl fun r _ => chain1_apply m c r o 95 tl.isLt).trans ?_)
  exact sum_kernel_bias fun r => row (w := 640) (ady m c) (adys m c) r o

end Cert.KernelIdeal.Value
-- ==== Proof.Reference.lean ====
/-
  WHAT THE REFERENCE COMPUTES, over the extended reals: its one product contracts batch, group and place in the group at
  once, and its one sum runs over the same three axes. Read at an index, both are sums over (batch, group, place), which
  are the rows numbered through (Proof/Sums.lean).
-/
module

public import proofs.«01_k».proof.Proof.Gen.ReferenceIdeal.Value
public import proofs.«01_k».proof.Proof.Rows
public import proofs.«01_k».proof.Proof.Sums

@[expose] public section

set_option maxRecDepth 16384

noncomputable section

open scoped BigOperators

namespace Cert.ReferenceIdeal.RefValue

open Cert.ReferenceIdeal Cert.ReferenceIdeal.Gen Cert.Rows Idealize.ShloMosaic Idealize.ShloMosaic.TcCoe Idealize.SL.Sem

/-- The product's dimension numbers: batch, group and place contracted, the two feature axes kept. -/
abbrev D : DotDims S12x256x128x512 S12x256x128x640 S512x640 := dot_S12x256x128x512_S12x256x128x640_S512x640_012_012_3_3_n_n

/-- A contracted index from its batch, group and place. -/
def contrIdx (k : Fin 12 × Fin 256 × Fin 128) : D.contr.Idx := fun p => match p with
  | ⟨0, _⟩ => k.1
  | ⟨1, _⟩ => k.2.1
  | ⟨2, _⟩ => k.2.2

/-- The contracted indices are the triples of batch, group and place. -/
def contrEquiv : Fin 12 × Fin 256 × Fin 128 ≃ D.contr.Idx where
  toFun := contrIdx
  invFun q := (q ⟨0, by decide⟩, q ⟨1, by decide⟩, q ⟨2, by decide⟩)
  left_inv _ := rfl
  right_inv q := by
    funext p
    match p with
    | ⟨0, _⟩ => rfl
    | ⟨1, _⟩ => rfl
    | ⟨2, _⟩ => rfl

/-- The left operand's index. -/
theorem lhsIdx_eq (i : Fin 512) (o : Fin 640) (k : Fin 12 × Fin 256 × Fin 128) :
    D.lhsIdx (ix2 i o) (contrIdx k) = ix4 k.1 k.2.1 k.2.2 i := by
  funext a
  match a with
  | ⟨0, _⟩ => rfl
  | ⟨1, _⟩ => rfl
  | ⟨2, _⟩ => rfl
  | ⟨3, _⟩ => rfl

/-- The right operand's index. -/
theorem rhsIdx_eq (i : Fin 512) (o : Fin 640) (k : Fin 12 × Fin 256 × Fin 128) :
    D.rhsIdx (ix2 i o) (contrIdx k) = ix4 k.1 k.2.1 k.2.2 o := by
  funext a
  match a with
  | ⟨0, _⟩ => rfl
  | ⟨1, _⟩ => rfl
  | ⟨2, _⟩ => rfl
  | ⟨3, _⟩ => rfl

/-- The product at an index: the sum over batch, group and place. -/
theorem matmul_read (l : S12x256x128x512.Idx → EReal) (r : S12x256x128x640.Idx → EReal) (acc : S512x640.Idx → EReal)
    (i : Fin 512) (o : Fin 640) :
    Ideal.matmul D l r acc (ix2 i o)
      = acc (ix2 i o) + ∑ b : Fin 12, ∑ n : Fin 256, ∑ t : Fin 128, l (ix4 b n t i) * r (ix4 b n t o) := by
  show acc (ix2 i o) + ∑ q : D.contr.Idx, l (D.lhsIdx (ix2 i o) q) * r (D.rhsIdx (ix2 i o) q) = _
  rw [← Fintype.sum_equiv contrEquiv (fun k => l (ix4 k.1 k.2.1 k.2.2 i) * r (ix4 k.1 k.2.1 k.2.2 o)) _
    (fun k => by
      show _ = l (D.lhsIdx (ix2 i o) (contrIdx k)) * r (D.rhsIdx (ix2 i o) (contrIdx k))
      rw [lhsIdx_eq, rhsIdx_eq])]
  simp only [Fintype.sum_prod_type]

/-- The sum over batch, group and place at an index. -/
theorem reduce_read (v : S12x256x128x640.Idx → EReal) (o : Fin 640) :
    Ideal.reduceAdd reduces_S12x256x128x640_S640 v (ix1 o) = ∑ b : Fin 12, ∑ n : Fin 256, ∑ t : Fin 128, v (ix4 b n t o) := by
  refine (Finset.sum_filter_eq_sum_of_fiber _ (fun k : Fin 12 × Fin 256 × Fin 128 => ix4 k.1 k.2.1 k.2.2 o)
    (fun _ _ e => Prod.ext (congrFun e 0) (Prod.ext (congrFun e 1) (congrFun e 2))) (fun i => ⟨fun e => ⟨(i 0, i 1, i 2), ?_⟩, ?_⟩) v).trans ?_
  · funext a; apply Fin.ext
    match a with
    | ⟨0, _⟩ => rfl
    | ⟨1, _⟩ => rfl
    | ⟨2, _⟩ => rfl
    | ⟨3, _⟩ => exact (congrArg Fin.val (congrFun e 0)).symm
  · rintro ⟨k, rfl⟩
    funext b
    apply Fin.ext
    match b with
    | ⟨0, _⟩ => rfl
  · simp only [Fintype.sum_prod_type]

/-- The reference's first result is the weight gradient. -/
theorem wgrad_eq (x0 : Vec Ideal S12x32768x512 .fp8e4m3) (x1 : Vec Ideal S12x256x512 .f32) (x2 : Vec Ideal S12x32768x640 .fp8e5m2)
    (x3 : Vec Ideal S12x256x640 .f32) (x4 : Vec Ideal S512x640 .f32) : k0_pay2 x0 x1 x2 x3 x4 = wgrad x0 x1 x2 x3 x4 := by
  funext j
  obtain ⟨i, o, rfl⟩ : ∃ (i : Fin 512) (o : Fin 640), j = ix2 i o := ⟨j 0, j 1, eq_ix2 j⟩
  pointwise [k0_pay2, k0_pay1]
  rw [matmul_read]
  pointwise
  refine congrArg (x4 (ix2 i o) + ·) ((Finset.sum_congr rfl fun b _ => Finset.sum_congr rfl fun n _ => Finset.sum_congr rfl fun t _ => ?_).trans
    (sum_reference fun r => row (w := 640) x2 x3 r o * row (w := 512) x0 x1 r i))
  have hb := b.isLt
  have hn := n.isLt
  have ht := t.isLt
  rw [row_at (w := 640) x2 x3 _ o b b ⟨n.val * 128 + t.val, by omega⟩ n (by omega) (by omega) (by dsimp only; omega) (by omega),
    row_at (w := 512) x0 x1 _ i b b ⟨n.val * 128 + t.val, by omega⟩ n (by omega) (by omega) (by dsimp only; omega) (by omega)]
  exact mul_comm _ _

/-- The reference's second result is the bias gradient. -/
theorem bgrad_eq (x2 : Vec Ideal S12x32768x640 .fp8e5m2) (x3 : Vec Ideal S12x256x640 .f32) (x5 : Vec Ideal S640 .f32) :
    k0_pay3 x2 x3 x5 = bgrad x2 x3 x5 := by
  funext j
  obtain ⟨o, rfl⟩ : ∃ (o : Fin 640), j = ix1 o := ⟨j 0, eq_ix1 j⟩
  pointwise [k0_pay3, k0_pay1]
  rw [reduce_read]
  pointwise
  refine congrArg (x5 (ix1 o) + ·) ((Finset.sum_congr rfl fun b _ => Finset.sum_congr rfl fun n _ => Finset.sum_congr rfl fun t _ => ?_).trans
    (sum_reference fun r => row (w := 640) x2 x3 r o))
  have hb := b.isLt
  have hn := n.isLt
  have ht := t.isLt
  rw [row_at (w := 640) x2 x3 _ o b b ⟨n.val * 128 + t.val, by omega⟩ n (by omega) (by omega) (by dsimp only; omega) (by omega)]

end Cert.ReferenceIdeal.RefValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- From memories that agree on the arguments the kernel and the reference both end with the weight gradient and the
    bias gradient of the arguments, and leave the arguments unchanged. -/
theorem algebraic : Cert.algebraic_KernelIdeal_ReferenceIdeal (hKernelIdeal := Cert.KernelIdeal.Gen.facts)
    (hReferenceIdeal := Cert.ReferenceIdeal.Gen.facts) := by
  intro m g m' g' _ ha
  refine ⟨fun c => Cert.KernelIdeal.Value.result6 m c, fun c => Cert.KernelIdeal.Value.result7flat m c,
    Cert.KernelIdeal.Value.run m g, ?_⟩
  refine (θ_run _ _ _).mono (fun r h c => ?_) (Cert.ReferenceIdeal.Value.run m' g')
  obtain ⟨a0, a1, a2, a3, a4, a5⟩ := ha c
  refine ⟨(h c).1.trans ?_, (h c).2.1.trans ?_, (h c).2.2⟩
  · rw [a0, a1, a2, a3, a4]
    exact (Cert.ReferenceIdeal.RefValue.wgrad_eq _ _ _ _ _).trans (Cert.KernelIdeal.Value.result6_eq m c).symm
  · rw [a0, a1, a2, a3, a4, a5]
    exact (Cert.ReferenceIdeal.RefValue.bgrad_eq _ _ _).trans (Cert.KernelIdeal.Value.result7flat_eq m c).symm

/-- The five claims: the three programs run and leave their arguments, the idealization preserves the kernel, and the
    kernel's two results are the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
